-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16384x512 : Shape := ⟨3, ![8, 16384, 512]⟩
abbrev S512x1 : Shape := ⟨2, ![512, 1]⟩
abbrev S1 : Shape := ⟨1, ![1]⟩
abbrev S512x2 : Shape := ⟨2, ![512, 2]⟩
abbrev S_ : Shape := ⟨0, ![]⟩
abbrev S2 : Shape := ⟨1, ![2]⟩
abbrev S1x2 : Shape := ⟨2, ![1, 2]⟩
abbrev S8x1x512 : Shape := ⟨3, ![8, 1, 512]⟩
abbrev S4x1x512 : Shape := ⟨3, ![4, 1, 512]⟩
abbrev S3x8192x512 : Shape := ⟨3, ![3, 8192, 512]⟩
abbrev S3 : Shape := ⟨1, ![3]⟩
abbrev S1x8192x512 : Shape := ⟨3, ![1, 8192, 512]⟩
abbrev S8192x512 : Shape := ⟨2, ![8192, 512]⟩
abbrev S1x1 : Shape := ⟨2, ![1, 1]⟩
abbrev S1x512 : Shape := ⟨2, ![1, 512]⟩
abbrev S8192x2 : Shape := ⟨2, ![8192, 2]⟩
abbrev S8192x1 : Shape := ⟨2, ![8192, 1]⟩
abbrev S512 : Shape := ⟨1, ![512]⟩
abbrev S1x8192x1 : Shape := ⟨3, ![1, 8192, 1]⟩
abbrev S1x1x1 : Shape := ⟨3, ![1, 1, 1]⟩
abbrev S1x1x512 : Shape := ⟨3, ![1, 1, 512]⟩

abbrev nBuf : Space → Nat
  | .hbm => 13
  | .vmem => 4
  | .smem => 1
  | _ => 0

abbrev bufTy : (tb : Table) → Fin (tcTables nBuf tb) → BufTy
  | .hbm, ⟨0, _⟩ => ⟨S8x16384x512, .f32⟩
  | .hbm, ⟨1, _⟩ => ⟨S512x1, .f32⟩
  | .hbm, ⟨2, _⟩ => ⟨S1, .f32⟩
  | .hbm, ⟨3, _⟩ => ⟨S512x1, .f32⟩
  | .hbm, ⟨4, _⟩ => ⟨S1, .f32⟩
  | .hbm, ⟨5, _⟩ => ⟨S512x2, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S2, .f32⟩
  | .hbm, ⟨11, _⟩ => ⟨S1x2, .f32⟩
  | .hbm, ⟨12, _⟩ => ⟨S8x1x512, .f32⟩
  | .local _ .vmem, ⟨0, _⟩ => ⟨S512x2, .f32⟩
  | .local _ .vmem, ⟨1, _⟩ => ⟨S4x1x512, .f32⟩
  | .local _ .vmem, ⟨2, _⟩ => ⟨S4x1x512, .f32⟩
  | .local _ .vmem, ⟨3, _⟩ => ⟨S3x8192x512, .f32⟩
  | .local _ .smem, ⟨0, _⟩ => ⟨S1x2, .f32⟩
  | _, _ => ⟨S8x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_scratch0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 3 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c0_i32_4 : BitVec 32 := 0#32
  let c0_i32_5 : BitVec 32 := 0#32
  ![v1.toNat, 0, 0]
def k0_off2 (i : grid0.Coords) (c0_i32_7 : BitVec 32) : Fin 3 → Nat :=
  let arg0 : BitVec 32 := BitVec.ofNat 32 (i 0).val
  let c4_i32_6 : BitVec 32 := 4#32
  let v8 : BitVec 32 := Scalar.muli arg0 c4_i32_6
  let v9 : BitVec 32 := Scalar.addi v8 c0_i32_7
  let c8192_i32 : BitVec 32 := 8192#32
  let c0_i32_11 : BitVec 32 := 0#32
  ![v9.toNat, 8192, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x16384x512 : Shape := ⟨3, ![8, 16384, 512]⟩
abbrev S512x1 : Shape := ⟨2, ![512, 1]⟩
abbrev S1 : Shape := ⟨1, ![1]⟩
abbrev S8x16384x1 : Shape := ⟨3, ![8, 16384, 1]⟩
abbrev S1x1x1 : Shape := ⟨3, ![1, 1, 1]⟩
abbrev S_ : Shape := ⟨0, ![]⟩
abbrev S8x1 : Shape := ⟨2, ![8, 1]⟩
abbrev S8x1x1 : Shape := ⟨3, ![8, 1, 1]⟩
abbrev S8x1x512 : Shape := ⟨3, ![8, 1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x16384x512, .f32⟩
  | .hbm, ⟨1, _⟩ => ⟨S512x1, .f32⟩
  | .hbm, ⟨2, _⟩ => ⟨S1, .f32⟩
  | .hbm, ⟨3, _⟩ => ⟨S512x1, .f32⟩
  | .hbm, ⟨4, _⟩ => ⟨S1, .f32⟩
  | .hbm, ⟨5, _⟩ => ⟨S8x16384x1, .f32⟩
  | .hbm, ⟨6, _⟩ => ⟨S1x1x1, .f32⟩
  | .hbm, ⟨7, _⟩ => ⟨S8x16384x1, .f32⟩
  | .hbm, ⟨8, _⟩ => ⟨S8x16384x1, .f32⟩
  | .hbm, ⟨9, _⟩ => ⟨S8x16384x1, .f32⟩
  | .hbm, ⟨10, _⟩ => ⟨S8x16384x1, .f32⟩
  | .hbm, ⟨11, _⟩ => ⟨S1x1x1, .f32⟩
  | .hbm, ⟨12, _⟩ => ⟨S8x16384x1, .f32⟩
  | .hbm, ⟨13, _⟩ => ⟨S8x16384x1, .f32⟩
  | .hbm, ⟨14, _⟩ => ⟨S8x16384x1, .f32⟩
  | .hbm, ⟨15, _⟩ => ⟨S8x16384x1, .f32⟩
  | .hbm, ⟨16, _⟩ => ⟨S_, .f32⟩
  | .hbm, ⟨17, _⟩ => ⟨S8x16384x1, .f32⟩
  | .hbm, ⟨18, _⟩ => ⟨S8x16384x1, .f32⟩
  | .hbm, ⟨19, _⟩ => ⟨S_, .f32⟩
  | .hbm, ⟨20, _⟩ => ⟨S8x16384x1, .f32⟩
  | .hbm, ⟨21, _⟩ => ⟨S8x16384x1, .f32⟩
  | .hbm, ⟨22, _⟩ => ⟨S8x16384x1, .f32⟩
  | .hbm, ⟨23, _⟩ => ⟨S_, .f32⟩
  | .hbm, ⟨24, _⟩ => ⟨S8x1, .f32⟩
  | .hbm, ⟨25, _⟩ => ⟨S_, .f32⟩
  | .hbm, ⟨26, _⟩ => ⟨S8x1, .f32⟩
  | .hbm, ⟨27, _⟩ => ⟨S8x1, .f32⟩
  | .hbm, ⟨28, _⟩ => ⟨S8x1x1, .f32⟩
  | .hbm, ⟨29, _⟩ => ⟨S8x16384x1, .f32⟩
  | .hbm, ⟨30, _⟩ => ⟨S8x16384x1, .f32⟩
  | .hbm, ⟨31, _⟩ => ⟨S8x16384x1, .f32⟩
  | .hbm, ⟨32, _⟩ => ⟨S_, .f32⟩
  | .hbm, ⟨33, _⟩ => ⟨S8x1, .f32⟩
  | .hbm, ⟨34, _⟩ => ⟨S8x1x1, .f32⟩
  | .hbm, ⟨35, _⟩ => ⟨S8x16384x1, .f32⟩
  | .hbm, ⟨36, _⟩ => ⟨S8x16384x1, .f32⟩
  | .hbm, ⟨37, _⟩ => ⟨S8x1x512, .f32⟩
  | _, _ => ⟨S8x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Pool.Setup.lean ====
/- The launch's set-up for the idealized kernel: the memrefs its body is called on, its three DMA cells, the array
   it leaves in HBM, and the invariant of a body that copies that array into scratch itself. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The token array, left in HBM and read there by the body's own copies. -/
abbrev tokM : Memref sig .tc .hbm S8x16384x512 .f32 := Memref.whole main_arg0
/-- The scratch buffer of three chunks that the copies fill in turn. -/
abbrev ringM : Memref sig .tc .vmem S3x8192x512 .f32 := Memref.whole cc0_scratch0

/-- The contents of the token array on core `c`. -/
abbrev TokBuf (c : Dev nD) : Type := Buf (Elt F) (tokM.view.loc (c : Thread nD τ))
/-- The token array held whole on core `c`, at contents `f`. -/
abbrev tokPt (c : Dev nD) (f : TokBuf (F := F) c) : sProp 𝕄 :=
  tokM.view.loc (c : Thread nD τ) ↦{fullShare} f

/-- The three DMA cells of the body's copies, one per chunk of the scratch buffer. -/
abbrev cells : Fin 3 → SemLoc sig := ![SemLoc.dma 4, SemLoc.dma 5, SemLoc.dma 6]
theorem cells_own : Pipeline.OwnSemFacts spec0 cells := by decide

/-- The cells at zero, one by one. -/
theorem cells_zero (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 4) 0 ∗ semVal ((c : Thread nD τ), SemLoc.dma 5) 0
          ∗ semVal ((c : Thread nD τ), SemLoc.dma 6) 0) := by
  rw [Pipeline.ownSems0_eq_of_list c cells [0, 1, 2] (by decide) (by decide)]; rfl

/-- The one array that the body reads in HBM, as a reference no window stages. -/
def hbmRefs : Finset (Ref sig .tc) := {main_arg0}
theorem hbmRefs_sub : hbmRefs ⊆ Pipeline.restRefs sig spec0 := by decide

theorem hbmRefs_pts (c : Dev nD) :
    (bigSep hbmRefs (fun b => ((c : Thread nD τ).loc b) ↦{fullShare} V m c b) : sProp 𝕄) = iprop(tokPt c (V m c main_arg0)) := by
  rw [BI.bigSep_eq_bigSepL_of_eq [main_arg0] (by decide) (by decide)]; rfl

/-- The body's invariant, conjunct by conjunct: the scratch buffer at some contents, the generator register, the cells
    at zero, and the token array as launched. -/
theorem inv_eq (c : Dev nD) :
    (Pipeline.ΦD cells spec0 hbmRefs (V m) c : sProp 𝕄)
      = iprop(iprop(∃ d, owns (c : Thread nD τ) ringM fullShare d) ∗ (∃ r, prngReg c r)
          ∗ iprop(semVal ((c : Thread nD τ), SemLoc.dma 4) 0 ∗ semVal ((c : Thread nD τ), SemLoc.dma 5) 0
              ∗ semVal ((c : Thread nD τ), SemLoc.dma 6) 0)
          ∗ iprop(tokPt c (V m c main_arg0))) := by
  rw [Pipeline.ΦD_eq, scopedRest0_eq, cells_zero, hbmRefs_pts]; simp only [ringM, owns_whole]; try rfl

end Cert.KernelIdeal.Pool

end
-- ==== Proof.Pool.Slots.lean ====
/- The chunks a body moves: what a copy reads of the token array, and what a load of one slot of the scratch buffer
   reads after copies into this slot and into others. -/
module

public import proofs.«01_k».proof.Proof.Pool.Setup
public import Idealize.ShloMosaic.Lib.Pipeline.Value
public import Idealize.ShloMosaic.Lib.ViewIndex
public import Idealize.ShloMosaic.Lib.ValueLayout

@[expose] public section

set_option maxRecDepth 16384

noncomputable section

namespace Cert.KernelIdeal.Pool

open Cert.KernelIdeal.Gen
open Idealize.ShloMosaic Idealize.ShloMosaic.TcCoe Idealize.ShloMosaic.ValueIdx

variable {F : FTy → Type} [FloatOps F]

/-- A chunk of one batch's tokens: chunk `k` of batch `b`, its 8192 tokens from token `8192 * k` on. -/
def chunkOf (x : Vec F S8x16384x512 .f32) (b : Fin 8) (k : Fin 2) : FVec F S8192x512 .f32 :=
  fun y => x (ix3 b ⟨8192 * k.val + (y 0).val, by have := (y 0).isLt; change (y 0).val < 8192 at this; omega⟩ (y 1))

/-- Batch `r` of grid point `i` in the token array. -/
def batchOf (i : grid0.Coords) (r : Fin 4) : Fin 8 :=
  ⟨4 * (i 0).val + r.val, by have := (i 0).isLt; change (i 0).val < 2 at this; omega⟩

/-- What a copy reads through a squeezed slice of the token array is a chunk, the slice's offsets being the chunk's. -/
theorem copied_eq (c : Dev nD) (off : Fin 3 → ℕ) (inb : ∀ a, off a + S1x8192x512.size a ≤ S8x16384x512.size a)
    (hr : ∀ a, (Rect.unit (s := S8x16384x512) off S1x8192x512.size inb).stride a = 1) (fh : TokBuf (F := F) c)
    (b : Fin 8) (k : Fin 2) (ho : off = ![b.val, 8192 * k.val, 0]) :
    ReadAs.same.apply (View.read (Elt F)
        (((Memref.whole main_arg0).slice (Rect.unit off S1x8192x512.size inb) hr).squeeze S8192x512 squeezes_S1x8192x512_S8192x512).view fh)
      = chunkOf fh b k := by
  subst ho
  funext y
  rw [eq_ix2 y]
  show fh ((Rect.unit (s := S8x16384x512) ![b.val, 8192 * k.val, 0] S1x8192x512.size inb).emb (Shape.reshapeEquiv _ (ix2 (y 0) (y 1)))) = _
  erw [reshapeEquiv_ix2_1ab]
  refine congrArg fh (Shape.idx3_ext ?_ ?_ ?_)
  · show b.val + 1 * 0 = b.val
    omega
  · show 8192 * k.val + 1 * (y 0).val = _
    rw [Nat.one_mul]
  · show 0 + 1 * (y 1).val = (y 1).val
    omega

/-- Slot `s` of the scratch buffer. -/
abbrev slotR (s : ℕ) (h : ∀ a, (![s, 0, 0] : Fin 3 → ℕ) a + S1x8192x512.size a ≤ S3x8192x512.size a) : Rect S3x8192x512 :=
  Rect.unit ![s, 0, 0] S1x8192x512.size h

/-- Two slots share no place. -/
theorem slotR_disjoint {s s' : ℕ} (h h') (hs : s ≠ s') : Disjoint (slotR s h).set (slotR s' h').set := by
  rw [Finset.disjoint_left]
  intro x hx hx'
  rw [Rect.mem_set_unit] at hx hx'
  have h0 := hx 0
  have h0' := hx' 0
  change s ≤ (x 0).val ∧ (x 0).val < s + 1 at h0
  change s' ≤ (x 0).val ∧ (x 0).val < s' + 1 at h0'
  omega

variable {M : Memref sig .tc .vmem S3x8192x512 .f32}

/-- A load of the slot just filled reads the chunk the copy brought. -/
theorem load_hit (r : Rect S3x8192x512) (hr : ∀ a, r.stride a = 1) (hq : r.shape.Squeezes S8192x512) (hc : r.shape.ShapeCasts S8192x512)
    (f : M.view.ty.Contents (Elt F)) (p : FVec F S8192x512 .f32) :
    shapeCast S8192x512 (View.readAt (Elt F) M.view r.toLoadRect
        (View.write (Elt F) ((M.slice r hr).squeeze S8192x512 hq).view f p Finset.univ)) hc = p := by
  have e := View.read_write_univ (Val := Elt F) (v := ((M.slice r hr).squeeze S8192x512 hq).view) f p
  rw [Memref.read_squeeze_slice M r hr hq hc] at e
  exact e

/-- A load through one rectangle does not see a copy into another that shares no place with it. -/
theorem load_apart (r r' : Rect S3x8192x512) (hd : Disjoint r.set r'.set) (hr' : ∀ a, r'.stride a = 1)
    (hq : r'.shape.Squeezes S8192x512) (f : M.view.ty.Contents (Elt F)) (p : FVec F S8192x512 .f32) :
    View.readAt (Elt F) M.view r.toLoadRect (View.write (Elt F) ((M.slice r' hr').squeeze S8192x512 hq).view f p Finset.univ)
      = View.readAt (Elt F) M.view r.toLoadRect f := by
  refine View.read_congr (v := M.view.slice r) fun j hj => View.write_of_not_mem _ _ _ ?_
  rw [View.setOn_univ, Memref.set_view_squeeze]
  intro hn
  obtain ⟨x, hx, rfl⟩ := Finset.mem_map.mp ((View.set_slice M.view r) ▸ hj)
  obtain ⟨x', hx', e⟩ := Finset.mem_map.mp ((View.set_slice M.view r') ▸ hn)
  exact Finset.disjoint_left.mp hd hx (M.view.emb.injective e ▸ hx')

/-- A load of one slot does not see a copy into another. -/
theorem load_miss (s s' : ℕ) (h h') (hr' : ∀ a, (slotR s' h').stride a = 1) (hs : s ≠ s')
    (hq : (slotR s' h').shape.Squeezes S8192x512) (f : M.view.ty.Contents (Elt F)) (p : FVec F S8192x512 .f32) :
    View.readAt (Elt F) M.view (slotR s h).toLoadRect
        (View.write (Elt F) ((M.slice (slotR s' h') hr').squeeze S8192x512 hq).view f p Finset.univ)
      = View.readAt (Elt F) M.view (slotR s h).toLoadRect f :=
  load_apart (slotR s h) (slotR s' h') (slotR_disjoint h h' hs) hr' hq f p

/-- A loaded chunk without its leading unit axis. -/
abbrev flat (u : Vec F S1x8192x512 .f32) : FVec F S8192x512 .f32 := shapeCast S8192x512 u shapeCasts_S1x8192x512_S8192x512

/-- A load reads what the last copy into its slot brought. -/
theorem flat_here {s : ℕ} {h} {hr : ∀ a, (slotR s h).stride a = 1} {f : M.view.ty.Contents (Elt F)} {p q : FVec F S8192x512 .f32} (hp : p = q) :
    flat (View.readAt (Elt F) M.view (slotR s h).toLoadRect
      (View.write (Elt F) ((M.slice (slotR s h) hr).squeeze S8192x512 squeezes_S1x8192x512_S8192x512).view f p Finset.univ)) = q :=
  (load_hit (slotR s h) hr squeezes_S1x8192x512_S8192x512 shapeCasts_S1x8192x512_S8192x512 f p).trans hp

/-- A load looks past a copy into another slot. -/
theorem flat_past {s s' : ℕ} (hs : s ≠ s') {h h'} {hr' : ∀ a, (slotR s' h').stride a = 1} {f : M.view.ty.Contents (Elt F)}
    {p q : FVec F S8192x512 .f32} (hp : flat (View.readAt (Elt F) M.view (slotR s h).toLoadRect f) = q) :
    flat (View.readAt (Elt F) M.view (slotR s h).toLoadRect
      (View.write (Elt F) ((M.slice (slotR s' h') hr').squeeze S8192x512 squeezes_S1x8192x512_S8192x512).view f p Finset.univ)) = q :=
  (congrArg flat (load_miss s s' h h' hr' hs squeezes_S1x8192x512_S8192x512 f p)).trans hp

end Cert.KernelIdeal.Pool

end
-- ==== Proof.Pool.Block.lean ====
/- What a body computes of one batch, over the two chunks of the batch's tokens, the weights and the biases: the
   exponential weight of each token, the weighted sum of the tokens, the sum of the weights and the quotient of the two.
   The body's own payloads are instances, whatever way the printer cut them. -/
module

public import proofs.«01_k».proof.Proof.Pool.Slots

@[expose] public section

set_option maxRecDepth 16384

noncomputable section

namespace Cert.KernelIdeal.Pool

open Cert.KernelIdeal.Gen
open Idealize.ShloMosaic

variable {F : FTy → Type} [FloatOps F]

/-- The two scores of each token of a chunk before their biases. -/
def proj (w : FVec F S512x2 .f32) (X : FVec F S8192x512 .f32) : FVec F S8192x2 .f32 :=
  matmul dot_S8192x512_S512x2_S8192x2_1_0_0_1_n_n none X w (constant S8192x2 .f32 0x00000000#32)

/-- The weight of each token of a chunk, the exponential of its gated score. -/
def wts (w : FVec F S512x2 .f32) (ba bg : Elt F .f32) (X : FVec F S8192x512 .f32) : FVec F S8192x1 .f32 :=
  exp (mulf
    (tanh (addf (extractStridedSlice S8192x1 ![0, 0] (proj w X) slices_S8192x2_o0_0_S8192x1) (broadcast S8192x1 ba)))
    (logistic (addf (extractStridedSlice S8192x1 ![0, 1] (proj w X) slices_S8192x2_o0_1_S8192x1) (broadcast S8192x1 bg))))

/-- A chunk's tokens times their weights, summed over the chunk. -/
def rowSum (w : FVec F S512x2 .f32) (ba bg : Elt F .f32) (X : FVec F S8192x512 .f32) : FVec F S1x512 .f32 :=
  shapeCast S1x512 (multiReduction .add [0] S512
    (mulf (broadcastTo S8192x512 (wts w ba bg X) broadcasts_S8192x1_S8192x512) X) 0x00000000#32 reduces_S8192x512_S512 (.inl rfl) rfl)
    shapeCasts_S512_S1x512

/-- A chunk's weights summed over the chunk. -/
def wtSum (w : FVec F S512x2 .f32) (ba bg : Elt F .f32) (X : FVec F S8192x512 .f32) : F .f32 :=
  extractAt ![0, 0, 0] (shapeCast S1x1x1 (multiReduction .add [1, 2] S1
    (shapeCast S1x8192x1 (wts w ba bg X) shapeCasts_S8192x1_S1x8192x1) 0x00000000#32 reduces_S1x8192x1_S1 (.inl rfl) rfl)
    shapeCasts_S1_S1x1x1) inpos_S1x1x1_p0_0_0

/-- The row a batch leaves: the weighted sum of the tokens of both chunks times the reciprocal of the sum of the weights. -/
def pooled (w : FVec F S512x2 .f32) (ba bg : Elt F .f32) (X Y : FVec F S8192x512 .f32) : FVec F S1x512 .f32 :=
  mulf (addf (addf (broadcast S1x512 (Scalar.ofBits .f32 0x00000000#32)) (rowSum w ba bg X)) (rowSum w ba bg Y))
    (broadcast S1x512 (Scalar.divf (Scalar.ofBits .f32 0x3F800000#32)
      (Scalar.addf (Scalar.addf (Scalar.ofBits .f32 0x00000000#32) (wtSum w ba bg X)) (wtSum w ba bg Y))))

/-- The same row in the output block's shape. -/
def piece (w : FVec F S512x2 .f32) (ba bg : Elt F .f32) (X Y : FVec F S8192x512 .f32) : FVec F S1x1x512 .f32 :=
  shapeCast S1x1x512 (shapeCast S512 (pooled w ba bg X Y) shapeCasts_S1x512_S512) shapeCasts_S512_S1x1x512

/-! ## The body's payloads

The printer cut the four batches' straight line in four ways; each is `piece` of its two loads. -/

section Payloads
variable (w : FVec F S512x2 .f32) (ba bg : Elt F .f32) (u v : Vec F S1x8192x512 .f32)

theorem payload_0 : k0_pay9 (k0_pay8 w ba bg (k0_pay6 w ba bg k0_pay3 u) (k0_pay7 w ba bg u) v) = piece w ba bg (flat u) (flat v) := rfl

theorem payload_1 : k0_pay20 (k0_pay14 k0_pay10 (k0_pay11 u) (k0_pay13 w ba bg u)) (k0_pay15 (k0_pay12 w ba bg u)) (k0_pay16 v)
    (k0_pay18 w ba v) (k0_pay19 w bg v) = piece w ba bg (flat u) (flat v) := rfl

theorem payload_2 : k0_pay26 w ba bg (k0_pay24 w ba bg k0_pay21 u) (k0_pay25 w ba bg u) v = piece w ba bg (flat u) (flat v) := rfl

theorem payload_3 : k0_pay1 w ba bg (k0_pay30 w ba bg k0_pay27 u) (k0_pay31 w ba bg u) (k0_pay32 v)
    (constant S8192x2 .f32 0x00000000#32) = piece w ba bg (flat u) (flat v) := rfl

end Payloads

end Cert.KernelIdeal.Pool

end
-- ==== Proof.Pool.Rows.lean ====
/- The output block of a grid point: the pooled rows of its four batches, and what a body's stores, loads and copies have
   to do with them. -/
module

public import proofs.«01_k».proof.Proof.Pool.Block
public import Idealize.ShloMosaic.Lib.WholeRead

@[expose] public section

set_option maxRecDepth 16384

noncomputable section

namespace Cert.KernelIdeal.Pool

open Cert.KernelIdeal.Gen
open Idealize.ShloMosaic Idealize.ShloMosaic.TcCoe Idealize.ShloMosaic.ValueIdx

variable {F : FTy → Type} [FloatOps F]

/-- The row that batch `b` leaves in the output block's shape, of the biases `x0`, the weights `x1` and the tokens `x`. -/
def batchRow (x0 : Vec F S1x2 .f32) (x1 : Vec F S512x2 .f32) (x : Vec F S8x16384x512 .f32) (b : Fin 8) : FVec F S1x1x512 .f32 :=
  piece x1 (x0 (ix2 0 0)) (x0 (ix2 0 1)) (chunkOf x b 0) (chunkOf x b 1)

/-- The output block of grid point `i`: row `r` is the row of the point's batch `r`. -/
def outBlk (i : grid0.Coords) (x0 : Vec F S1x2 .f32) (x1 : Vec F S512x2 .f32) (x : Vec F S8x16384x512 .f32) : Vec F S4x1x512 .f32 :=
  fun y => batchRow x0 x1 x (batchOf i (y 0)) (ix3 0 0 (y 2))

/-- Row `r` of the output block. -/
abbrev rowR (r : ℕ) (h : ∀ a, (![r, 0, 0] : Fin 3 → ℕ) a + S1x1x512.size a ≤ S4x1x512.size a) : Rect S4x1x512 :=
  Rect.unit ![r, 0, 0] S1x1x512.size h

/-- Row `r` of the output block is the row of the point's batch `r`. -/
theorem outBlk_row (i : grid0.Coords) (x0 : Vec F S1x2 .f32) (x1 : Vec F S512x2 .f32) (x : Vec F S8x16384x512 .f32) (r : Fin 4) (h)
    (z : (rowR r.val h).shape.Idx) : batchRow x0 x1 x (batchOf i r) z = outBlk i x0 x1 x ((rowR r.val h).emb z) := by
  have e0 : (((rowR r.val h).emb z) 0 : Fin 4) = r := by
    apply Fin.ext
    show r.val + 1 * (z 0).val = r.val
    have := (z 0).isLt; change (z 0).val < 1 at this; omega
  unfold outBlk
  rw [e0]
  refine congrArg _ (Shape.idx3_ext ?_ ?_ ?_)
  · have := (z 0).isLt; change (z 0).val < 1 at this; show (z 0).val = 0; omega
  · have := (z 1).isLt; change (z 1).val < 1 at this; show (z 1).val = 0; omega
  · show (z 2).val = 0 + 1 * (z 2).val; omega

/-- Four stores, one per row, leave the output block, each being its batch's row. -/
theorem rows_read {κ : Kind} {sp : Space} (v : View sig κ sp S4x1x512 .f32) (f : v.ty.Contents (Elt F)) (i : grid0.Coords)
    (x0 : Vec F S1x2 .f32) (x1 : Vec F S512x2 .f32) (x : Vec F S8x16384x512 .f32) (h0 h1 h2 h3) (p0 p1 p2 p3 : FVec F S1x1x512 .f32)
    (e0 : p0 = batchRow x0 x1 x (batchOf i 0)) (e1 : p1 = batchRow x0 x1 x (batchOf i 1))
    (e2 : p2 = batchRow x0 x1 x (batchOf i 2)) (e3 : p3 = batchRow x0 x1 x (batchOf i 3)) :
    View.read (Elt F) v (v.writes (Elt F) f [⟨rowR 3 h3, p3⟩, ⟨rowR 2 h2, p2⟩, ⟨rowR 1 h1, p1⟩, ⟨rowR 0 h0, p0⟩])
      = outBlk i x0 x1 x := by
  subst e0 e1 e2 e3
  funext y
  refine View.read_writes_apply_of_pieces v f _ _ ?_ y ?_
  · intro p hp
    simp only [List.mem_cons, List.not_mem_nil, or_false] at hp
    rcases hp with rfl | rfl | rfl | rfl
    · exact outBlk_row i x0 x1 x 3 h3
    · exact outBlk_row i x0 x1 x 2 h2
    · exact outBlk_row i x0 x1 x 1 h1
    · exact outBlk_row i x0 x1 x 0 h0
  · have hm : ∀ (r : ℕ) (h), (y 0).val = r → y ∈ (rowR r h).set := fun r h hr => by
      rw [Rect.mem_set_unit]
      intro a
      match a with
      | ⟨0, _⟩ => exact ⟨hr.ge, by show (y 0).val < r + 1; omega⟩
      | ⟨1, _⟩ => exact ⟨Nat.zero_le _, (Nat.zero_add 1).symm ▸ (y 1).isLt⟩
      | ⟨2, _⟩ => exact ⟨Nat.zero_le _, (Nat.zero_add 512).symm ▸ (y 2).isLt⟩
    have hy : (y 0).val < 4 := (y 0).isLt
    have : (y 0).val = 3 ∨ (y 0).val = 2 ∨ (y 0).val = 1 ∨ (y 0).val = 0 := by omega
    rcases this with hr | hr | hr | hr
    · exact ⟨_, List.mem_cons_self, hm 3 h3 hr⟩
    · exact ⟨_, List.mem_cons_of_mem _ List.mem_cons_self, hm 2 h2 hr⟩
    · exact ⟨_, List.mem_cons_of_mem _ (List.mem_cons_of_mem _ List.mem_cons_self), hm 1 h1 hr⟩
    · exact ⟨_, List.mem_cons_of_mem _ (List.mem_cons_of_mem _ (List.mem_cons_of_mem _ List.mem_cons_self)), hm 0 h0 hr⟩

/-- A batch's row from a body's values: the loaded weights and biases, and the two loads of the batch's chunks. -/
theorem row_of_loads {w : FVec F S512x2 .f32} {ba bg : Elt F .f32} {u v : Vec F S1x8192x512 .f32} {x0 : Vec F S1x2 .f32}
    {x1 : Vec F S512x2 .f32} {x : Vec F S8x16384x512 .f32} {b : Fin 8} (hw : w = x1) (ha : ba = x0 (ix2 0 0)) (hg : bg = x0 (ix2 0 1))
    (hu : flat u = chunkOf x b 0) (hv : flat v = chunkOf x b 1) : piece w ba bg (flat u) (flat v) = batchRow x0 x1 x b := by
  rw [hw, ha, hg, hu, hv]; rfl

/-- The weights as a body loads them. -/
theorem weights_loaded {M : Memref sig .tc .vmem S512x2 .f32} (hM : M.IsWhole) (x1 : Vec F S512x2 .f32) (h) :
    k0_pay2 (View.readAt (Elt F) M.view (Rect.unit (s := S512x2) ![0, 0] S512x2.size h).toLoadRect (hM.unread x1)) = x1 := by
  refine (shapeCast_self _ _).trans (funext fun y => ?_)
  refine (hM.readAt_unread x1 _ y).trans (congrArg x1 (funext fun a => Fin.ext ?_))
  match a with
  | ⟨0, _⟩ => show 0 + 1 * (y 0).val = (y 0).val; omega
  | ⟨1, _⟩ => show 0 + 1 * (y 1).val = (y 1).val; omega

/-- A bias as a body loads it. -/
theorem bias_loaded {M : Memref sig .tc .smem S1x2 .f32} (hM : M.IsWhole) (x0 : Vec F S1x2 .f32) (o : ℕ) (h) (ho : o < 2) (z) :
    View.readAt (Elt F) M.view (Rect.unit (s := S1x2) ![0, o] S1x1.size h).toLoadRect (hM.unread x0) z = x0 (ix2 0 ⟨o, ho⟩) := by
  refine (hM.readAt_unread x0 _ z).trans (congrArg x0 (funext fun a => Fin.ext ?_))
  match a with
  | ⟨0, _⟩ => have := (z 0).isLt; change (z 0).val < 1 at this; show 0 + 1 * (z 0).val = 0; omega
  | ⟨1, _⟩ => have := (z 1).isLt; change (z 1).val < 1 at this; show o + 1 * (z 1).val = o; omega

end Cert.KernelIdeal.Pool

end
-- ==== Proof.Pool.Run.lean ====
/- The run of the body at one grid point: from the staged biases and weights, an output block at anything, the scratch
   buffer at anything and the token array in HBM, it leaves the output block at the four pooled rows of the point's batches. -/
module

public import proofs.«01_k».proof.Proof.Pool.Rows

@[expose] public section

set_option maxRecDepth 16384

noncomputable section

namespace Cert.KernelIdeal.Pool

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body's triple. -/
theorem body_run (c : Dev nD) (i : grid0.Coords) (arg1 : Memref sig .tc .smem S1x2 .f32) (harg1 : arg1.IsWhole) (arg3 : Memref sig .tc .vmem S512x2 .f32) (harg3 : arg3.IsWhole) (arg4 : Memref sig .tc .vmem S4x1x512 .f32) (harg4 : arg4.IsWhole)
    (x0 : Vec F S1x2 .f32) (x1 : Vec F S512x2 .f32) (fh0 : TokBuf (F := F) c) :
      ∀ (W : Waits sig Unit) (K : PUnit → sProp 𝕄),
        iprop(owns (c : Thread nD τ) arg1 fullShare x0 ∗ owns (c : Thread nD τ) arg3 fullShare x1 ∗ (∃ d, owns (c : Thread nD τ) arg4 fullShare d) ∗ (∃ d, owns (c : Thread nD τ) ringM fullShare d) ∗ semVal ((c : Thread nD τ), SemLoc.dma 4) 0 ∗ semVal ((c : Thread nD τ), SemLoc.dma 5) 0 ∗ semVal ((c : Thread nD τ), SemLoc.dma 6) 0 ∗ tokPt c fh0 ∗ owes (c : Thread nD τ) 0 W
            ∗ (iprop(owns (c : Thread nD τ) arg1 fullShare x0 ∗ owns (c : Thread nD τ) arg3 fullShare x1 ∗ owns (c : Thread nD τ) arg4 fullShare (outBlk i x0 x1 fh0) ∗ (∃ d, owns (c : Thread nD τ) ringM fullShare d) ∗ semVal ((c : Thread nD τ), SemLoc.dma 4) 0 ∗ semVal ((c : Thread nD τ), SemLoc.dma 5) 0 ∗ semVal ((c : Thread nD τ), SemLoc.dma 6) 0 ∗ tokPt c fh0 ∗ (∃ W', owes (c : Thread nD τ) 0 W')) -∗ K ⟨⟩))
          ⊢ wp frame (wpE (defs₀ (F := F)) Variants.none c none) Set.univ (cc0__pool_kernel i arg1 harg1 (Memref.whole main_arg0) (Memref.isWhole_whole _) arg3 harg3 arg4 harg4 ringM (Memref.isWhole_whole _) cc0_scratch1) K := by
    intro W K
    simp only [cc0__pool_kernel_eq_skeleton]; unfold cc0__pool_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%d2, %f2, -, H2⟩, ⟨%ds0, %fs0, -, HS0⟩, Hq0, Hq1, Hq2, Hh0, HW, Hk⟩
    obtain rfl := harg1.eq_unread hf0; obtain rfl := harg3.eq_unread hf1
    sl_exec
    sl_step
    iapply Hk
    isplitl [H0]
    · iexists _; isplitr
      · ipureintro; exact harg1.read_unread _
      iexact H0
    isplitl [H1]
    · iexists _; isplitr
      · ipureintro; exact harg3.read_unread _
      iexact H1
    isplitl [H2]
    · iexists _; isplitr
      rotate_left
      · iexact H2
      ipureintro
      refine rows_read _ _ _ _ _ _ _ _ _ _ _ _ _ _ ?_ ?_ ?_ ?_
      · sl_unfold_words
        refine (payload_0 _ _ _ _ _).trans (row_of_loads (weights_loaded harg3 x1 _) (bias_loaded harg1 x0 0 _ (by decide) _) (bias_loaded harg1 x0 1 _ (by decide) _) ?_ ?_)
        · repeat refine flat_past (by decide) ?_
          exact flat_here (copied_eq c _ _ _ fh0 (batchOf i 0) 0 (k0_off1_eq i 0))
        · repeat refine flat_past (by decide) ?_
          exact flat_here (copied_eq c _ _ _ fh0 (batchOf i 0) 1 (k0_off2_eq i 0))
      · sl_unfold_words
        refine (payload_1 _ _ _ _ _).trans (row_of_loads (weights_loaded harg3 x1 _) (bias_loaded harg1 x0 0 _ (by decide) _) (bias_loaded harg1 x0 1 _ (by decide) _) ?_ ?_)
        · repeat refine flat_past (by decide) ?_
          exact flat_here (copied_eq c _ _ _ fh0 (batchOf i 1) 0 (k0_off1_eq i 1))
        · repeat refine flat_past (by decide) ?_
          exact flat_here (copied_eq c _ _ _ fh0 (batchOf i 1) 1 (k0_off2_eq i 1))
      · sl_unfold_words
        refine (payload_2 _ _ _ _ _).trans (row_of_loads (weights_loaded harg3 x1 _) (bias_loaded harg1 x0 0 _ (by decide) _) (bias_loaded harg1 x0 1 _ (by decide) _) ?_ ?_)
        · repeat refine flat_past (by decide) ?_
          exact flat_here (copied_eq c _ _ _ fh0 (batchOf i 2) 0 (k0_off1_eq i 2))
        · repeat refine flat_past (by decide) ?_
          exact flat_here (copied_eq c _ _ _ fh0 (batchOf i 2) 1 (k0_off2_eq i 2))
      · sl_unfold_words
        refine (payload_3 _ _ _ _ _).trans (row_of_loads (weights_loaded harg3 x1 _) (bias_loaded harg1 x0 0 _ (by decide) _) (bias_loaded harg1 x0 1 _ (by decide) _) ?_ ?_)
        · repeat refine flat_past (by decide) ?_
          exact flat_here (copied_eq c _ _ _ fh0 (batchOf i 3) 0 (k0_off1_eq i 3))
        · repeat refine flat_past (by decide) ?_
          exact flat_here (copied_eq c _ _ _ fh0 (batchOf i 3) 1 (k0_off2_eq i 3))
    isplitl [HS0]
    · iexists _, _; isplitr
      rotate_left
      · iexact HS0
      all_goals try (ipureintro; rfl)
    isplitl [Hq0]
    · iexact Hq0
    isplitl [Hq1]
    · iexact Hq1
    isplitl [Hq2]
    · iexact Hq2
    isplitl [Hh0]
    · iexact Hh0
    iexists _; iexact HW

end Cert.KernelIdeal.Pool

end
-- ==== Proof.Pool.Launch.lean ====
/- The launch of the idealized kernel: the pipeline's proof data, each output block named; the body's obligation at every
   grid point; and the run, which ends with every array named and every semaphore at zero. -/
module

public import proofs.«01_k».proof.Proof.Pool.Run
public import Idealize.ShloMosaic.Lib.Claim

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output block of point `t` on core `c`. -/
def outAt (c : Dev nD) (t : Fin cfg0.N) : Vec F S4x1x512 .f32 :=
  outBlk (grid0.coords t) (iblk m c 0 t) (iblk m c 1 t) (V m c main_arg0)

/-- The proof data: the arrays as the region finds them, each input's buffer at its block, the output's buffer at the
    point's four pooled rows, and the body's invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦD cells spec0 hbmRefs (V m) c
  q _ := fullShare
  owed _ := 0

theorem dats_A (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = outAt m c t := by dsimp only [dats]

/-- The biases are staged at every point. -/
theorem staged_0 (c : Dev nD) (t : Fin cfg0.N) (d) : (dats m 0 c).before 0 t d = iblk m c 0 t :=
  ((dats m 0 c).before_in_eq_fetched 0 rfl (fun _ => rfl) (fun _ _ _ => rfl)
      (fun t => by rw [left_0]; unfold Dat.blockOf iblk; rw [dats_A]; try rfl) t d).trans
    (by unfold Dat.fetched Dat.blockOf iblk; rw [dats_A]; try rfl)
/-- So are the weights. -/
theorem staged_1 (c : Dev nD) (t : Fin cfg0.N) (d) : (dats m 0 c).before 1 t d = iblk m c 1 t :=
  ((dats m 0 c).before_in_eq_fetched 1 rfl (fun _ => rfl) (fun _ _ _ => rfl)
      (fun t => by rw [left_1]; unfold Dat.blockOf iblk; rw [dats_A]; try rfl) t d).trans
    (by unfold Dat.fetched Dat.blockOf iblk; rw [dats_A]; try rfl)

/-- What the body is called with at point `t`. -/
def before (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it gives back. -/
def after (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at a point, by `body_run`: the invariant lends it the scratch buffer, the cells and the token array. -/
theorem body_point (c : Dev nD) (t : Fin cfg0.N) :
    before m c t ⊢ wp frame (wpE (defs₀ (F := F)) Variants.none c none) Set.univ (bodyAt0 t) (fun _ => after m c t) := by
  unfold before after bodyAt0
  simp only [staged_0, staged_1]
  rw [show (dats m 0 c).Φ t.succ = (dats m 0 c).Φ t.castSucc from rfl, left_0, left_1, left_2]
  rw [show (dats m 0 c).Φ t.castSucc = Pipeline.ΦD cells spec0 hbmRefs (V m) c from rfl, inv_eq]
  unfold Dat.owesAt Pipeline.owesWithin
  rw [show (dats m 0 c).owed t.castSucc = 0 from rfl, show (dats m 0 c).owed t.succ = 0 from rfl]
  iintro ⟨⟨HS, Hg, ⟨Hq0, Hq1, Hq2⟩, Hh⟩, ⟨%W, -, HW⟩, ⟨%d0, H0⟩, ⟨%d1, H1⟩, ⟨%d2, H2⟩⟩
  iapply (body_run c (grid0.coords t) _ _ _ _ _ _ (iblk m c 0 t) (iblk m c 1 t) (V m c main_arg0) W _)
  isplitl [H0]; · iexact H0
  isplitl [H1]; · iexact H1
  isplitl [H2]; · iexists _; iexact H2
  isplitl [HS]; · iexact HS
  isplitl [Hq0]; · iexact Hq0
  isplitl [Hq1]; · iexact Hq1
  isplitl [Hq2]; · iexact Hq2
  isplitl [Hh]; · iexact Hh
  isplitl [HW]; · iexact HW
  iintro ⟨H0, H1, H2, HS, Hq0, Hq1, Hq2, Hh, ⟨%W', HW'⟩⟩
  isplitl [HS Hg Hq0 Hq1 Hq2 Hh]
  · isplitl [HS]
    · iexact HS
    isplitl [Hg]
    · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  iexact H2

/-- The body table's row at point `t`'s slots. -/
theorem table_row (t : Fin cfg0.N) :
    defs₀ (F := F) .tc cfg0.body (cfg0.bodyArgs t (cfg0.slots t)) = bodyAt0 t := by
  unfold defs₀; rw [Defs.onTc_tc]

/-- The pipeline's obligation on its body. -/
theorem obligation (c : Dev nD) : BodyObligation (dats (F := F) m 0 c) (defs₀ (F := F)) Variants.none () Set.univ := fun t => by
  rw [bigSep_W0, bigSep_W0, table_row]
  exact triple_restated (body_point m c t) rfl .rfl fun _ => .rfl

set_option maxHeartbeats 800000 in
/-- The host operations before the region, over the resources of a body that copies for itself. -/
theorem hosts_run (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

-- the launch theorem's implicit arguments are found by unfolding plain definitions in their types
set_option backward.isDefEq.respectTransparency.types false in
/-- The launch: every run ends, with each array of the pipeline at what the proof data says, every other buffer as the
    region found it, and every semaphore at zero. -/
theorem launch_run :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 cells defs₀ Variants.none cells_own hbmRefs hbmRefs_sub m ρ main
    (hbody := fun c => (obligation m c).loose) (hshare := fun c => (dats m 0 c).share_full fun _ => rfl)
    (howed := fun _ _ => rfl) (V := V m) (hmain := hosts_run m Variants.none) (hA := dats_A m) (hin := fun _ => .rfl) (hout := fun _ => .rfl)

end Cert.KernelIdeal.Pool

end
-- ==== Proof.Pool.Array.lean ====
/- What the idealized kernel's result array holds when it ends: row `b` is the pooled row of batch `b`, computed from the
   tokens, the joined weights and the joined biases. -/
module

public import proofs.«01_k».proof.Proof.Pool.Launch
public import Idealize.ShloMosaic.Lib.Pipeline.Value
public import Idealize.ShloMosaic.Lib.StableHlo.Run

@[expose] public section

set_option maxRecDepth 16384

noncomputable section

namespace Cert.KernelIdeal.Pool

open Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (m : (ℓ : Loc nD τ sig) → Buf (Elt F) ℓ) (ρ : Dev nD → PrngReg)

/-- All eight pooled rows. -/
def poolAll (x0 : Vec F S1x2 .f32) (x1 : Vec F S512x2 .f32) (x : Vec F S8x16384x512 .f32) : Vec F S8x1x512 .f32 :=
  fun y => batchRow x0 x1 x (y 0) (ix3 0 0 (y 2))

/-- The biases' block is the whole array of biases. -/
theorem block_0 (c : Dev nD) (t : Fin cfg0.N) : iblk m c 0 t = V m c main_v6 := by
  have hz : (fun a => win0_0.index t a * main_v6.ty.shape.size a) = fun _ => 0 := funext fun a => by
    fin_cases a <;> rfl
  exact Memref.read_access_unit_zero (Elt F) main_v6 hz (fun a => by rw [congrFun hz a]; simp) (V m c main_v6)

/-- The weights' block is the whole array of weights. -/
theorem block_1 (c : Dev nD) (t : Fin cfg0.N) : iblk m c 1 t = V m c main_v0 := by
  have hz : (fun a => win0_1.index t a * main_v0.ty.shape.size a) = fun _ => 0 := funext fun a => by
    fin_cases a <;> rfl
  exact Memref.read_access_unit_zero (Elt F) main_v0 hz (fun a => by rw [congrFun hz a]; simp) (V m c main_v0)

/-- The result array, on core `c`. -/
def result (c : Dev nD) : Buf (Elt F) ((c : Thread nD τ).loc main_v7) :=
  poolAll (V m c main_v6) (V m c main_v0) (V m c main_arg0)

theorem outBlk_read (i : grid0.Coords) (x0 : Vec F S1x2 .f32) (x1 : Vec F S512x2 .f32) (x : Vec F S8x16384x512 .f32)
    (y : S4x1x512.Idx) (z : S8x1x512.Idx) (h0 : (z 0).val = 4 * (i 0).val + (y 0).val) (h2 : (z 2).val = (y 2).val) :
    outBlk i x0 x1 x y = poolAll x0 x1 x z := by
  have e0 : batchOf i (y 0) = z 0 := Fin.ext h0.symm
  have e2 : (y 2 : Fin 512) = z 2 := Fin.ext h2.symm
  unfold outBlk poolAll
  rw [e0, e2]

/-- Each flushed block is its part of the result. -/
theorem flushed_part (c : Dev nD) (t : Fin cfg0.N) (_ : (cfg0.win 2).flush t = true) :
    (dats m 0 c).flushed 2 t = ((cfg0.win 2).blk t).view.read (Elt F) (result m c) := by
  show (cfg0.win 2).cut (grid0.coords t) ((dats m 0 c).after 2 t) = _
  rw [left_2]
  unfold outAt
  rw [block_0, block_1]
  funext y
  refine outBlk_read _ _ _ _ y _ ?_ ?_
  · show win0_2.index t 0 * 4 + 1 * (y 0).val = 4 * ((grid0.coords t) 0).val + (y 0).val
    rw [show win0_2.index t 0 = ((grid0.coords t) 0).val from by revert t; decide]
    omega
  · show win0_2.index t 2 * 512 + 1 * (y 2).val = (y 2).val
    rw [show win0_2.index t 2 = 0 from by revert t; decide]
    omega

/-- Row `b` of the result lies in the block of point `b / 4`. -/
theorem row_in_block (i : S8x1x512.Idx) (t : Fin 2) (ht : t.val = (i 0).val / 4) :
    (i : main_v7.ty.Idx) ∈ ((View.whole main_v7).slice (win0_2.rect t)).set := by
  have h0 := (i 0).isLt; change (i 0).val < 8 at h0
  have h1 := (i 1).isLt; change (i 1).val < 1 at h1
  have h2 := (i 2).isLt; change (i 2).val < 512 at h2
  have hix : ∀ t : Fin 2, win0_2.index t 0 = t.val ∧ win0_2.index t 1 = 0 ∧ win0_2.index t 2 = 0 := by decide
  obtain ⟨e0, e1, e2⟩ := hix t
  rw [View.set_slice_whole, Rect.mem_set_unit]
  intro a
  match a with
  | ⟨0, _⟩ => show win0_2.index t 0 * 4 ≤ (i 0).val ∧ (i 0).val < win0_2.index t 0 * 4 + 4
              rw [e0]; omega
  | ⟨1, _⟩ => show win0_2.index t 1 * 1 ≤ (i 1).val ∧ (i 1).val < win0_2.index t 1 * 1 + 1
              rw [e1]; omega
  | ⟨2, _⟩ => show win0_2.index t 2 * 512 ≤ (i 2).val ∧ (i 2).val < win0_2.index t 2 * 512 + 512
              rw [e2]; omega

/-- So the result array ends at the pooled rows. -/
theorem array_end (c : Dev nD) : (dats m 0 c).arrAt 2 cfg0.N = result m c :=
  (dats m 0 c).arrAt_eq_of_cover 2 (result m c) (flushed_part m c) fun i =>
    ⟨⟨(i (0 : Fin 3)).val / 4, by have := (i (0 : Fin 3)).isLt; change (i (0 : Fin 3)).val < 8 at this; show _ < 2; omega⟩, flush0_2 _,
      row_in_block i _ rfl⟩

/-- The arguments end as they began, and the result array ends at the pooled rows. -/
theorem run_values :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ c : Dev nD, r.2.mem ((c.tc : Thread nD τ).loc main_v7) = result m c) :=
  (θ_run defs _ _).mono (fun _ h =>
    ⟨⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩,
     fun c => ((h.1 c).1 2).trans (array_end m c)⟩) (launch_run m ρ)

end Cert.KernelIdeal.Pool

end
-- ==== Proof.Pool.Equation.lean ====
/- The equation over the extended reals: weights normalized before the sum, each exponential taken after subtracting the
   greatest score, give the same sum as raw exponentials divided out at the end. Every score is a real number, whatever
   extended reals it comes from, so each weight is a positive real and distributes over a sum of extended reals. -/
module

public import Idealize.ShloMosaic.PureOps.Ideal.Laws
public import Idealize.ShloMosaic.Lib.IdealHost

@[expose] public section

noncomputable section

namespace Cert.Pool

open Idealize.ShloMosaic

/-- A gated score: a hyperbolic tangent times a logistic. -/
def gate (a g : EReal) : EReal := Ideal.tanh a * Ideal.logistic g

theorem tanh_real (a : EReal) : ∃ r : ℝ, Ideal.tanh a = (r : EReal) := by
  induction a with
  | bot => exact ⟨-1, by simp⟩
  | top => exact ⟨1, by simp⟩
  | coe r => exact ⟨_, Ideal.tanh_coe r⟩

theorem logistic_real (a : EReal) : ∃ r : ℝ, Ideal.logistic a = (r : EReal) := by
  induction a with
  | bot => exact ⟨0, by simp⟩
  | top => exact ⟨1, by simp⟩
  | coe r => exact ⟨_, Ideal.logistic_coe r⟩

/-- A gated score is a real number. -/
theorem gate_real (a g : EReal) : ∃ r : ℝ, gate a g = (r : EReal) := by
  obtain ⟨r, hr⟩ := tanh_real a
  obtain ⟨q, hq⟩ := logistic_real g
  exact ⟨r * q, by rw [gate, hr, hq, EReal.coe_mul]⟩

/-- The greatest of finitely many real numbers, at least one, is a real number. -/
theorem fold_max_real {ι : Type} (A : Finset ι) (hA : A.Nonempty) (s : ι → ℝ) :
    ∃ q : ℝ, A.fold max (⊥ : EReal) (fun i => (s i : EReal)) = (q : EReal) := by
  classical
  induction hA using Finset.Nonempty.cons_induction with
  | singleton a => exact ⟨s a, by simp⟩
  | cons a A ha _ ih =>
    obtain ⟨q, hq⟩ := ih
    exact ⟨max (s a) q, by rw [Finset.fold_cons, hq]; exact (EReal.coe_strictMono.monotone.map_max).symm⟩

/-- A nonnegative real factor distributes over a finite sum of extended reals. -/
theorem sum_mul_real {ι : Type} (A : Finset ι) (f : ι → EReal) (c : ℝ) (hc : 0 ≤ c) :
    (∑ i ∈ A, f i) * (c : EReal) = ∑ i ∈ A, f i * (c : EReal) := by
  classical
  induction A using Finset.induction_on with
  | empty => simp
  | insert a A ha ih =>
    rw [Finset.sum_insert ha, Finset.sum_insert ha,
      EReal.right_distrib_of_nonneg_of_ne_top (EReal.coe_nonneg.mpr hc) (EReal.coe_ne_top c), ih]

/-- A finite sum of real numbers, as extended reals. -/
theorem sum_coe {ι : Type} (A : Finset ι) (f : ι → ℝ) : ∑ i ∈ A, (f i : EReal) = ((∑ i ∈ A, f i : ℝ) : EReal) := by
  classical
  induction A using Finset.induction_on with
  | empty => simp
  | insert a A ha ih => rw [Finset.sum_insert ha, Finset.sum_insert ha, ih, EReal.coe_add]

/-- The equation, for scores that are real numbers and any real shift. -/
theorem normalized_eq {ι : Type} [Fintype ι] [Nonempty ι] (s : ι → ℝ) (M : ℝ) (x : ι → EReal) :
    ∑ n, Ideal.div (Ideal.exp ((s n : EReal) - (M : EReal))) (∑ k, Ideal.exp ((s k : EReal) - (M : EReal))) * x n
      = (∑ n, Ideal.exp (s n : EReal) * x n) * Ideal.div 1 (∑ n, Ideal.exp (s n : EReal)) := by
  have hS : 0 < ∑ n, Real.exp (s n) := Finset.sum_pos (fun n _ => Real.exp_pos _) Finset.univ_nonempty
  have hshift : ∀ n, Ideal.exp ((s n : EReal) - (M : EReal)) = ((Real.exp (s n) * Real.exp (-M) : ℝ) : EReal) := fun n => by
    rw [← EReal.coe_sub, Ideal.exp_coe, sub_eq_add_neg, Real.exp_add]
  have hT : 0 < ∑ n, Real.exp (s n) * Real.exp (-M) :=
    Finset.sum_pos (fun n _ => mul_pos (Real.exp_pos _) (Real.exp_pos _)) Finset.univ_nonempty
  simp only [hshift, Ideal.exp_coe, sum_coe]
  rw [Ideal.div_coe hS.ne', one_mul, sum_mul_real _ _ _ (one_div_pos.mpr hS).le]
  refine Finset.sum_congr rfl fun n _ => ?_
  rw [Ideal.div_coe hT.ne', ← EReal.coe_mul, mul_right_comm (Real.exp (s n) : EReal), ← EReal.coe_mul]
  congr 2
  rw [← Finset.sum_mul]
  have h := Real.exp_pos (-M)
  field_simp

/-- The equation for gated scores, the shift being the greatest of them. -/
theorem softmax_eq {ι : Type} [Fintype ι] [Nonempty ι] (a g : ι → EReal) (x : ι → EReal) :
    ∑ n, Ideal.div (Ideal.exp (gate (a n) (g n) - (Finset.univ : Finset ι).fold max ⊥ fun k => gate (a k) (g k)))
        (∑ k, Ideal.exp (gate (a k) (g k) - (Finset.univ : Finset ι).fold max ⊥ fun k => gate (a k) (g k))) * x n
      = (∑ n, Ideal.exp (gate (a n) (g n)) * x n) * Ideal.div 1 (∑ n, Ideal.exp (gate (a n) (g n))) := by
  choose s hs using fun n => gate_real (a n) (g n)
  obtain ⟨M, hM⟩ := fold_max_real (Finset.univ : Finset ι) Finset.univ_nonempty s
  simp only [hs, hM]
  exact normalized_eq s M x

/-- The pattern of minus infinity. -/
theorem ofBits_neg_inf : Ideal.ofBits .f32 0xFF800000#32 = ⊥ := by simp [Ideal.ofBits, Ideal.ieee]

end Cert.Pool

end
-- ==== Proof.Pool.BlockValue.lean ====
/- What a pooled row holds at an index, over the extended reals: the weighted sum of all the batch's tokens times the
   reciprocal of the sum of the weights, each token's weight the exponential of its gated score. -/
module

public import proofs.«01_k».proof.Proof.Pool.Array
public import proofs.«01_k».proof.Proof.Pool.Equation
public import Idealize.ShloMosaic.Lib.ValueIdx
public import Idealize.ShloMosaic.Lib.ValueLayout

@[expose] public section

set_option maxRecDepth 16384

noncomputable section

namespace Cert.KernelIdeal.Pool

open Cert.KernelIdeal.Gen
open Idealize.ShloMosaic Idealize.ShloMosaic.TcCoe Idealize.ShloMosaic.ValueIdx
open Cert.Pool

/-- A score before its gate: a token's row times a column of weights, plus a bias. -/
def lin (x : Fin 512 → EReal) (w : Fin 512 → EReal) (β : EReal) : EReal := (∑ k, x k * w k) + β

/-- The scores of a chunk's tokens at an index. -/
theorem proj_apply (w : FVec Ideal S512x2 .f32) (X : FVec Ideal S8192x512 .f32) (r : Fin 8192) (j : Fin 2) :
    proj w X (ix2 r j) = ∑ k : Fin 512, X (ix2 r k) * w (ix2 k j) := by
  unfold proj
  simp only [matmul]
  rw [Ideal.matmul_constant_zero_apply,
    ← Equiv.sum_comp (contrEquiv1 dot_S8192x512_S512x2_S8192x2_1_0_0_1_n_n 512 rfl rfl).symm]
  refine Finset.sum_congr rfl fun k _ => ?_
  have hk := contrEquiv1_symm_val dot_S8192x512_S512x2_S8192x2_1_0_0_1_n_n 512 rfl rfl k
  generalize (contrEquiv1 dot_S8192x512_S512x2_S8192x2_1_0_0_1_n_n 512 rfl rfl).symm k = q at hk ⊢
  congr 2
  · funext a; apply Fin.ext
    match a with
    | ⟨0, _⟩ => rfl
    | ⟨1, _⟩ => exact (dot_S8192x512_S512x2_S8192x2_1_0_0_1_n_n.lhsIdx_val_of_single rfl (ix2 r j) q).trans hk
  · funext a; apply Fin.ext
    match a with
    | ⟨0, _⟩ => exact (dot_S8192x512_S512x2_S8192x2_1_0_0_1_n_n.rhsIdx_val_of_single rfl (ix2 r j) q).trans hk
    | ⟨1, _⟩ => rfl

/-- A token's weight. -/
theorem wts_apply (w : FVec Ideal S512x2 .f32) (ba bg : Elt Ideal .f32) (X : FVec Ideal S8192x512 .f32) (r : Fin 8192) (u : Fin 1) :
    wts w ba bg X (ix2 r u)
      = Ideal.exp (gate (lin (fun k => X (ix2 r k)) (fun k => w (ix2 k 0)) ba) (lin (fun k => X (ix2 r k)) (fun k => w (ix2 k 1)) bg)) := by
  have hu : u.val = 0 := by omega
  have h0 := slice2_axis1_apply 0 (proj w X) slices_S8192x2_o0_0_S8192x1 r u 0 (by rw [hu]; rfl)
  have h1 := slice2_axis1_apply 1 (proj w X) slices_S8192x2_o0_1_S8192x1 r u 1 (by rw [hu]; rfl)
  rw [proj_apply] at h0 h1
  unfold wts gate lin
  show Ideal.exp (Ideal.tanh (_ + ba) * Ideal.logistic (_ + bg)) = _
  rw [h0, h1]

/-- A chunk's weighted sum at a coordinate. -/
theorem rowSum_apply (w : FVec Ideal S512x2 .f32) (ba bg : Elt Ideal .f32) (X : FVec Ideal S8192x512 .f32) (u : Fin 1) (d : Fin 512) :
    rowSum w ba bg X (ix2 u d) = ∑ r : Fin 8192, wts w ba bg X (ix2 r 0) * X (ix2 r d) := by
  unfold rowSum
  rw [shapeCast_a_1a_apply]
  refine (Ideal.multiReduction_add_single _ _ reduces_S8192x512_S512 _ _ (ix1 d)).trans ?_
  have hb : ∀ r : Fin 8192, broadcastTo S8192x512 (wts w ba bg X) broadcasts_S8192x1_S8192x512 (ix2 r d) = wts w ba bg X (ix2 r 0) :=
    fun r => broadcastTo_apply _ _ _ _ fun a => by
      match a with
      | ⟨0, _⟩ => rfl
      | ⟨1, _⟩ => rfl
  have he : ∀ r : Fin 8192, (reduces_S8192x512_S512).lift (ix1 d) r = ix2 r d := fun r => funext fun a => by
    match a with
    | ⟨0, _⟩ => rfl
    | ⟨1, _⟩ => rfl
  refine Finset.sum_congr rfl fun r _ => (congrArg _ (he r)).trans ?_
  exact congrArg (· * X (ix2 r d)) (hb r)

/-- A chunk's sum of weights. -/
theorem wtSum_eq (w : FVec Ideal S512x2 .f32) (ba bg : Elt Ideal .f32) (X : FVec Ideal S8192x512 .f32) :
    wtSum w ba bg X = ∑ r : Fin 8192, wts w ba bg X (ix2 r 0) := by
  unfold wtSum extractAt shapeCast
  refine (Ideal.multiReduction_add_total _ _ reduces_S1x8192x1_S1 (by decide) _ _ _).trans ?_
  refine (Equiv.sum_comp (Shape.reshapeEquiv shapeCasts_S8192x1_S1x8192x1) (wts w ba bg X)).trans ?_
  rw [sum_idx2]
  exact Finset.sum_congr rfl fun r _ => Fin.sum_univ_one _

/-- A sum over two chunks of equal length. -/
theorem sum_halves {M : Type*} [AddCommMonoid M] {c N : ℕ} (hN : N = c + c) (f : Fin N → M) :
    ∑ n, f n = (∑ r : Fin c, f ⟨c * (0 : Fin 2).val + r.val, by have := r.isLt; show c * 0 + r.val < N; omega⟩)
      + ∑ r : Fin c, f ⟨c * (1 : Fin 2).val + r.val, by have := r.isLt; show c * 1 + r.val < N; omega⟩ := by
  subst hN
  rw [Fin.sum_univ_add]
  congr 1
  · exact Finset.sum_congr rfl fun r _ => congrArg f (Fin.ext (show r.val = c * 0 + r.val by omega))
  · exact Finset.sum_congr rfl fun r _ => congrArg f (Fin.ext (show c + r.val = c * 1 + r.val by omega))

/-- The weight of token `n` of batch `b`, from the biases, the weights and the tokens. -/
def weight (x0 : Vec Ideal S1x2 .f32) (x1 : Vec Ideal S512x2 .f32) (x : Vec Ideal S8x16384x512 .f32) (b : Fin 8) (n : Fin 16384) : EReal :=
  Ideal.exp (gate (lin (fun k => x (ix3 b n k)) (fun k => x1 (ix2 k 0)) (x0 (ix2 0 0)))
    (lin (fun k => x (ix3 b n k)) (fun k => x1 (ix2 k 1)) (x0 (ix2 0 1))))

/-- A batch's row at a coordinate. -/
theorem batchRow_apply (x0 : Vec Ideal S1x2 .f32) (x1 : Vec Ideal S512x2 .f32) (x : Vec Ideal S8x16384x512 .f32) (b : Fin 8) (d : Fin 512) :
    batchRow x0 x1 x b (ix3 0 0 d)
      = (∑ n, weight x0 x1 x b n * x (ix3 b n d)) * Ideal.div 1 (∑ n, weight x0 x1 x b n) := by
  have hp : batchRow x0 x1 x b (ix3 0 0 d) = pooled x1 (x0 (ix2 0 0)) (x0 (ix2 0 1)) (chunkOf x b 0) (chunkOf x b 1) (ix2 0 d) := by
    unfold batchRow piece
    refine (shapeCast_apply _ _ _ (ix1 d) ?_).trans (shapeCast_1a_a_apply _ _ d)
    rw [Shape.rowMajor_val_three, Shape.rowMajor_val_one]
    show d.val = (0 * 1 + 0) * 512 + d.val
    omega
  have hz : (Scalar.ofBits .f32 0x00000000#32 : Ideal .f32) = (0 : EReal) := Ideal.ofBits_zero_f32
  have ho : (Scalar.ofBits .f32 0x3F800000#32 : Ideal .f32) = (1 : EReal) := Ideal.ofBits_one_f32
  rw [hp]
  unfold pooled
  rw [mulf_apply, addf_apply, addf_apply, broadcast_apply, broadcast_apply, rowSum_apply, rowSum_apply, hz, ho,
    Ideal.scalar_divf_def, Ideal.scalar_addf_def, Ideal.scalar_addf_def, wtSum_eq, wtSum_eq, zero_add, zero_add,
    sum_halves (c := 8192) rfl (fun n => weight x0 x1 x b n * x (ix3 b n d)), sum_halves (c := 8192) rfl (weight x0 x1 x b)]
  simp only [wts_apply]
  rfl

end Cert.KernelIdeal.Pool

end
-- ==== Proof.Pool.Joined.lean ====
/- The two arrays the host joins before the kernel runs: the columns of weights side by side, and the two biases. -/
module

public import proofs.«01_k».proof.Proof.Gen.KernelIdeal.Frame
public import Idealize.ShloMosaic.Lib.Pipeline.Value
public import Idealize.ShloMosaic.Lib.StableHlo.Run
public import Idealize.ShloMosaic.Lib.ValueIdx
public import Idealize.ShloMosaic.Lib.ValueLayout

@[expose] public section

noncomputable section

namespace Cert.KernelIdeal.Pool

open Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- The joined weights. -/
theorem weights_joined (c : Dev nD) :
    V m c main_v0 = (concatenate S512x2 1 [⟨S512x1, (m ((c : Thread nD τ).loc main_arg1) : Vec F S512x1 .f32)⟩,
      ⟨S512x1, (m ((c : Thread nD τ).loc main_arg3) : Vec F S512x1 .f32)⟩] concatenates_S512x1_S512x1_S512x2_d1 : Vec F S512x2 .f32) := by
  change StableHlo.after hostOps0 (fun b => m (c, b)) (Proc.devRef .tc main_v0) = _
  after_results

/-- The joined biases. -/
theorem biases_joined (c : Dev nD) :
    V m c main_v6 = (shapeCast S1x2 (concatenate S2 0
      [⟨S1, broadcastInDim S1 ![] bcast_S_S1 (shapeCast S_ (m ((c : Thread nD τ).loc main_arg2) : Vec F S1 .f32) shapeCasts_S1_S_)⟩,
       ⟨S1, broadcastInDim S1 ![] bcast_S_S1 (shapeCast S_ (m ((c : Thread nD τ).loc main_arg4) : Vec F S1 .f32) shapeCasts_S1_S_)⟩]
      concatenates_S1_S1_S2_d0) shapeCasts_S2_S1x2 : Vec F S1x2 .f32) := by
  after_results_simp
  rfl

/-- The first column is the first weights. -/
theorem column_0 (c : Dev nD) (k : Fin 512) :
    (V m c main_v0 : Vec F S512x2 .f32) (ix2 k 0) = (m ((c : Thread nD τ).loc main_arg1) : Vec F S512x1 .f32) (ix2 k 0) := by
  rw [weights_joined]
  exact concatenate_pair_apply_left (s₁ := S512x1) (s₂ := S512x1) (t := S512x2) 1 _ _ _ _ rfl (ix2 k 0) fun (b : Fin 2) => by
    match b with
    | ⟨0, _⟩ => rfl
    | ⟨1, _⟩ => rfl

/-- The second column is the second weights. -/
theorem column_1 (c : Dev nD) (k : Fin 512) :
    (V m c main_v0 : Vec F S512x2 .f32) (ix2 k 1) = (m ((c : Thread nD τ).loc main_arg3) : Vec F S512x1 .f32) (ix2 k 0) := by
  rw [weights_joined]
  exact concatenate_pair_apply_right (s₁ := S512x1) (s₂ := S512x1) (t := S512x2) 1 _ _ _ _ rfl rfl (ix2 k 0) (fun (b : Fin 2) hb => by
    match b with
    | ⟨0, _⟩ => rfl
    | ⟨1, _⟩ => exact absurd rfl hb) rfl

/-- One number passed through a scalar and back is itself. -/
theorem single_apply (b : Vec F S1 .f32) (i : S1.Idx) :
    broadcastInDim S1 ![] bcast_S_S1 (shapeCast S_ b shapeCasts_S1_S_) i = b (ix1 0) :=
  (broadcastInDim_apply _ _ _ _ ix0 fun a => a.elim0).trans (shapeCast_apply _ _ _ _ rfl)

/-- The first bias. -/
theorem bias_0 (c : Dev nD) :
    (V m c main_v6 : Vec F S1x2 .f32) (ix2 0 0) = (m ((c : Thread nD τ).loc main_arg2) : Vec F S1 .f32) (ix1 0) := by
  rw [biases_joined]
  refine (shapeCast_a_1a_apply _ _ 0 0).trans ?_
  exact (concatenate_pair_apply_left (s₁ := S1) (s₂ := S1) (t := S2) 0 _ _ _ (ix1 0) rfl (ix1 0) fun (b : Fin 1) => by
    match b with
    | ⟨0, _⟩ => rfl).trans (single_apply (F := F) _ _)

/-- The second bias. -/
theorem bias_1 (c : Dev nD) :
    (V m c main_v6 : Vec F S1x2 .f32) (ix2 0 1) = (m ((c : Thread nD τ).loc main_arg4) : Vec F S1 .f32) (ix1 0) := by
  rw [biases_joined]
  refine (shapeCast_a_1a_apply _ _ 0 1).trans ?_
  exact (concatenate_pair_apply_right (s₁ := S1) (s₂ := S1) (t := S2) 0 _ _ _ (ix1 1) rfl rfl (ix1 0) (fun (b : Fin 1) hb => by
    match b with
    | ⟨0, _⟩ => exact absurd rfl hb) rfl).trans (single_apply (F := F) _ _)

end Cert.KernelIdeal.Pool

end
-- ==== Proof.Pool.RefValue.lean ====
/- What the reference holds at an index, over the extended reals: the tokens weighted by the exponentials of their gated
   scores less the greatest score, each divided by the sum of them all. -/
module

public import proofs.«01_k».proof.Proof.Gen.ReferenceIdeal.Read
public import proofs.«01_k».proof.Proof.Pool.Equation
public import Idealize.ShloMosaic.Lib.ValueIdx
public import Idealize.ShloMosaic.Lib.Quiescent

@[expose] public section

noncomputable section

namespace Cert.ReferenceIdeal.Pool

open Cert.ReferenceIdeal Cert.ReferenceIdeal.Gen Cert.ReferenceIdeal.Read
open Idealize.ShloMosaic Idealize.ShloMosaic.TcCoe Idealize.ShloMosaic.ValueIdx Idealize.SL.Sem
open Cert.Pool

variable (x : FVec Ideal S8x16384x512 .f32) (wa : FVec Ideal S512x1 .f32) (ba : FVec Ideal S1 .f32)
  (wg : FVec Ideal S512x1 .f32) (bg : FVec Ideal S1 .f32)

/-- A score of token `n` of batch `b` before its gate. -/
def line (w : FVec Ideal S512x1 .f32) (β : FVec Ideal S1 .f32) (b : Fin 8) (n : Fin 16384) : EReal :=
  (∑ k : Fin 512, x (ix3 b n k) * w (ix2 k 0)) + β (ix1 0)

/-- The gated score. -/
def score (b : Fin 8) (n : Fin 16384) : EReal := gate (line x wa ba b n) (line x wg bg b n)

theorem one_word : (FloatOps.ofBits .f32 0x3F800000#32 : Ideal .f32) = (1 : EReal) := Ideal.ofBits_one_f32

theorem v3_apply (b : Fin 8) (n : Fin 16384) (u : Fin 1) : val_main_v3 (F := Ideal) x wa ba (ix3 b n u) = line x wa ba b n := by
  obtain rfl : u = 0 := Subsingleton.elim _ _
  rw [val_main_v3_apply, val_main_v0_apply, val_main_v2_apply, val_main_v1_apply]
  unfold line
  refine congrArg₂ (· + ·) (Finset.sum_congr rfl fun k _ => congrArg₂ (· * ·) (congrArg x ?_) (congrArg wa ?_)) (congrArg ba ?_)
  · exact eq_ix3 _
  · exact eq_ix2 _
  · exact eq_ix1 _

theorem v8_apply (b : Fin 8) (n : Fin 16384) (u : Fin 1) : val_main_v8 (F := Ideal) x wg bg (ix3 b n u) = line x wg bg b n :=
  v3_apply x wg bg b n u

theorem v15_apply (b : Fin 8) (n : Fin 16384) (u : Fin 1) :
    val_main_v15 (F := Ideal) x wa ba wg bg (ix3 b n u) = score x wa ba wg bg b n := by
  rw [val_main_v15_apply, val_main_v4_apply, val_main_v14_apply, val_main_v13_apply, val_main_cst_0_apply, val_main_v12_apply,
    val_main_v11_apply, val_main_cst_apply, val_main_v10_apply, val_main_v9_apply, v3_apply, v8_apply, one_word]
  rfl

/-- The greatest score of batch `b`. -/
def top (b : Fin 8) : EReal := (Finset.univ : Finset (Fin 16384)).fold max ⊥ fun n => score x wa ba wg bg b n

theorem v18_apply (b : Fin 8) (u : Fin 1) :
    val_main_v18 (F := Ideal) x wa ba wg bg (ix2 b u) = top x wa ba wg bg b := by
  obtain rfl : u = 0 := Subsingleton.elim _ _
  have hbot : (FloatOps.ofBits .f32 0xFF800000#32 : Ideal .f32) = (⊥ : EReal) := ofBits_neg_inf
  have h16 : val_main_v16 (F := Ideal) x wa ba wg bg (ix2 b 0) = top x wa ba wg bg b := by
    unfold val_main_v16
    refine (Host.reduce_eq_fold_single (FloatOps.maximumf : Ideal .f32 → Ideal .f32 → Ideal .f32) _ _ _ (by decide) _ _).trans ?_
    rw [val_main_cst_1_apply, hbot]
    refine congrArg (Finset.fold max (⊥ : EReal) · (Finset.univ : Finset (Fin 16384))) (funext fun n => ?_)
    refine Eq.trans (congrArg (val_main_v15 (F := Ideal) x wa ba wg bg) ?_) (v15_apply x wa ba wg bg b n 0)
    funext a
    match a with
    | ⟨0, _⟩ => rfl
    | ⟨1, _⟩ => rfl
    | ⟨2, _⟩ => rfl
  rw [val_main_v18_apply, val_main_v17_apply, val_main_cst_2_apply, hbot, h16]
  exact max_bot_left _

theorem v22_apply (b : Fin 8) (n : Fin 16384) (u : Fin 1) :
    val_main_v22 (F := Ideal) x wa ba wg bg (ix3 b n u) = Ideal.exp (score x wa ba wg bg b n - top x wa ba wg bg b) := by
  have h := v18_apply x wa ba wg bg b 0
  rw [val_main_v22_apply, val_main_v21_apply, v15_apply, val_main_v20_apply, val_main_v19_apply]
  refine Eq.trans (congrArg (fun y => Ideal.exp (score x wa ba wg bg b n - val_main_v18 (F := Ideal) x wa ba wg bg y)) (eq_ix2 _)) ?_
  exact congrArg (fun y => Ideal.exp (score x wa ba wg bg b n - y)) h

/-- The sum of batch `b`'s exponentials. -/
def total (b : Fin 8) : EReal := ∑ k : Fin 16384, Ideal.exp (score x wa ba wg bg b k - top x wa ba wg bg b)

theorem v23_apply (b : Fin 8) (u : Fin 1) :
    val_main_v23 (F := Ideal) x wa ba wg bg (ix2 b u) = total x wa ba wg bg b := by
  have hz : (FloatOps.ofBits .f32 0x00000000#32 : Ideal .f32) = (0 : EReal) := Ideal.ofBits_zero_f32
  rw [val_main_v23_apply, val_main_cst_3_apply, hz, zero_add]
  refine Finset.sum_congr rfl fun k _ => ?_
  rw [eq_ix3 (idx_main_v23 (ix2 b u) k)]
  exact v22_apply x wa ba wg bg b k u

theorem v26_apply (b : Fin 8) (n : Fin 16384) (u : Fin 1) :
    val_main_v26 (F := Ideal) x wa ba wg bg (ix3 b n u)
      = Ideal.div (Ideal.exp (score x wa ba wg bg b n - top x wa ba wg bg b)) (total x wa ba wg bg b) := by
  rw [val_main_v26_apply, val_main_v25_apply, val_main_v24_apply]
  exact congrArg₂ Ideal.div (v22_apply x wa ba wg bg b n _)
    ((congrArg (val_main_v23 (F := Ideal) x wa ba wg bg) (eq_ix2 _)).trans (v23_apply x wa ba wg bg b 0))

/-- The reference at an index. -/
theorem v27_apply (b : Fin 8) (u : Fin 1) (d : Fin 512) :
    val_main_v27 (F := Ideal) x wa ba wg bg (ix3 b u d)
      = ∑ n : Fin 16384, Ideal.div (Ideal.exp (score x wa ba wg bg b n - top x wa ba wg bg b)) (total x wa ba wg bg b) * x (ix3 b n d) := by
  rw [val_main_v27_apply]
  exact Finset.sum_congr rfl fun n _ => congrArg₂ (· * ·)
    ((congrArg (val_main_v26 (F := Ideal) x wa ba wg bg) (eq_ix3 _)).trans (v26_apply x wa ba wg bg b n _)) (congrArg x (eq_ix3 _))

/-- Rewritten by the equation: raw exponentials, divided out at the end. -/
theorem v27_eq (b : Fin 8) (u : Fin 1) (d : Fin 512) :
    val_main_v27 (F := Ideal) x wa ba wg bg (ix3 b u d)
      = (∑ n : Fin 16384, Ideal.exp (score x wa ba wg bg b n) * x (ix3 b n d)) * Ideal.div 1 (∑ n : Fin 16384, Ideal.exp (score x wa ba wg bg b n)) :=
  (v27_apply x wa ba wg bg b u d).trans (softmax_eq (line x wa ba b) (line x wg bg b) fun n => x (ix3 b n d))

end Cert.ReferenceIdeal.Pool

end
-- ==== Proof.Pool.Agree.lean ====
/- The two programs agree: from equal arguments the kernel's pooled rows are the reference's result. -/
module

public import proofs.«01_k».proof.Proof.Pool.Array
public import proofs.«01_k».proof.Proof.Pool.BlockValue
public import proofs.«01_k».proof.Proof.Pool.Joined
public import proofs.«01_k».proof.Proof.Pool.RefValue

@[expose] public section

noncomputable section

namespace Cert.KernelIdeal.Pool

open Cert.KernelIdeal.Gen
open Idealize.ShloMosaic Idealize.ShloMosaic.TcCoe Idealize.ShloMosaic.ValueIdx
open Cert.Pool Cert.ReferenceIdeal.Pool

variable (m : (ℓ : Loc nD τ sig) → Buf (Elt Ideal) ℓ)

/-- A token's weight, from the arguments: the exponential of the reference's gated score. -/
theorem weight_eq (c : Dev nD) (b : Fin 8) (n : Fin 16384) :
    weight (V m c main_v6) (V m c main_v0) (V m c main_arg0) b n
      = Ideal.exp (score (m ((c : Thread nD τ).loc main_arg0)) (m ((c : Thread nD τ).loc main_arg1)) (m ((c : Thread nD τ).loc main_arg2))
          (m ((c : Thread nD τ).loc main_arg3)) (m ((c : Thread nD τ).loc main_arg4)) b n) := by
  have h0 := funext (column_0 m c)
  have h1 := funext (column_1 m c)
  unfold weight score
  rw [h0, h1, bias_0, bias_1, V_main_arg0]
  rfl

/-- The kernel's result is the reference's function of the arguments. -/
theorem result_eq (c : Dev nD) :
    result m c = Cert.ReferenceIdeal.Read.val_main_v27 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext (y : S8x1x512.Idx)
  refine Eq.trans ?_ ((v27_eq _ _ _ _ _ (y 0) (y 1) (y 2)).symm.trans
    (congrArg (Cert.ReferenceIdeal.Read.val_main_v27 (F := Ideal) _ _ _ _ _) (eq_ix3 y).symm))
  refine (batchRow_apply (V m c main_v6) (V m c main_v0) (V m c main_arg0) (y 0) (y 2)).trans ?_
  have hw := funext (weight_eq m c (y 0))
  have hx := V_main_arg0 m c
  refine congrArg₂ (fun (w : Fin 16384 → EReal) (x : Vec Ideal S8x16384x512 .f32) =>
    (∑ n, w n * x (ix3 (y 0) n (y 2))) * Ideal.div 1 (∑ n, w n)) hw hx

end Cert.KernelIdeal.Pool

end
-- ==== Proof.Pool.Same.lean ====
/- The word kernel and the idealized kernel are one program text, so what is proved of the second's text at every reading
   of the floats holds of the first at words. -/
module

public import proofs.«01_k».proof.Proof.Gen.Kernel
public import proofs.«01_k».proof.Proof.Pool.Array

@[expose] public section

set_option maxRecDepth 65536

noncomputable section

namespace Cert.Kernel.Pool

open Idealize.ShloMosaic Idealize.ShloMosaic.TcCoe Idealize.SL.Sem

variable {F : FTy → Type} [FloatOps F]

/-- The two programs' kernel bodies are one. -/
theorem body_eq : @Cert.Kernel.cc0__pool_kernel F _ _ = @Cert.KernelIdeal.cc0__pool_kernel F _ _ := rfl

/-- So are the tables that call them. -/
theorem rows_eq : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => rfl
  | ⟨_ + 1, h⟩, _ => exact absurd h (Nat.not_lt.2 (Nat.le_add_left _ _))

/-- So are the tables with the pipeline. -/
theorem defs_eq : Cert.Kernel.defs (F := F) = Cert.KernelIdeal.defs (F := F) :=
  congrArg (Pipeline.defs (Cert.KernelIdeal.pcfgs (F := F))) rows_eq

/-- So are the main functions. -/
theorem main_eq : Cert.Kernel.main (F := F) = Cert.KernelIdeal.main (F := F) := rfl

variable (m : (ℓ : Loc nD τ sig) → Buf (Elt F) ℓ) (ρ : Dev nD → PrngReg)

/-- The word kernel's text ends with its arguments as they began and every semaphore at zero. -/
theorem frame :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact (θ_run Cert.KernelIdeal.defs _ _).mono (fun _ h => h.1) (Cert.KernelIdeal.Pool.run_values (F := F) m ρ)

end Cert.Kernel.Pool

end
-- ==== Proof.lean ====
/- The certificate of the gated attention pooling kernel. Each claim is one theorem below; the mathematics is in Proof/Pool:
   the copies and the body (Setup, Slots, Block, Rows, Run), the launch (Launch), what the result array holds (Array,
   BlockValue, Joined), what the reference computes (RefValue), the equation (Equation), and their meeting (Agree, Same). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pool.Agree
public import proofs.«01_k».proof.Proof.Pool.Same
public import Idealize.ShloMosaic.Lib.Quiescent
public import Idealize.ShloMosaic.Adequacy
public import Idealize.ShloMosaic.Init

@[expose] public section

noncomputable section

namespace Cert.Proof

open Idealize.ShloMosaic Idealize.SL.Sem

/-- The kernel at words ends, faults nowhere, and leaves its arguments and semaphores as it found them. -/
theorem frame_kernel : Cert.quiescent_Kernel := fun m ρ _ => Cert.Kernel.Pool.frame (F := Bits) m ρ

/-- So does the kernel over the extended reals. -/
theorem frame_ideal : Cert.quiescent_KernelIdeal := fun m ρ _ =>
  (θ_run Cert.KernelIdeal.defs _ _).mono (fun _ h => h.1) (Cert.KernelIdeal.Pool.run_values (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments both programs end with the kernel's pooled rows. -/
theorem equal_results : Cert.algebraic_KernelIdeal_ReferenceIdeal := by
  intro m ρ m' ρ' _ hargs
  refine ⟨fun c => Cert.KernelIdeal.Pool.result m c, ?_, ?_⟩
  · exact (θ_run Cert.KernelIdeal.defs _ _).mono (fun _ h c => ⟨h.2 c, h.1.1 c⟩) (Cert.KernelIdeal.Pool.run_values (F := Ideal) m ρ)
  · refine (θ_run Cert.ReferenceIdeal.defs _ _).mono (fun _ h c => ⟨(h c).1.trans ?_, (h c).2⟩) (Cert.ReferenceIdeal.Value.run (F := Ideal) m' ρ')
    obtain ⟨h0, h1, h2, h3, h4⟩ := hargs c
    rw [Cert.ReferenceIdeal.Read.val_main_v27_eq, h0, h1, h2, h3, h4]
    exact (Cert.KernelIdeal.Pool.result_eq m c).symm

theorem claim : Cert.Claim := ⟨Cert.Kernel.Gen.facts, Cert.KernelIdeal.Gen.facts, Cert.ReferenceIdeal.Gen.facts,
  frame_kernel, frame_ideal, frame_reference, trivial, equal_results⟩

end Cert.Proof

end
